-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x32768 : Shape := ⟨2, ![4096, 32768]⟩
abbrev S64x32768 : Shape := ⟨2, ![64, 32768]⟩
abbrev S8192x32768 : Shape := ⟨2, ![8192, 32768]⟩
abbrev S512x2048 : Shape := ⟨2, ![512, 2048]⟩
abbrev S8x2048 : Shape := ⟨2, ![8, 2048]⟩
abbrev S1024x2048 : Shape := ⟨2, ![1024, 2048]⟩
abbrev S64x2048 : Shape := ⟨2, ![64, 2048]⟩
abbrev S64x1x2048 : Shape := ⟨3, ![64, 1, 2048]⟩
abbrev S64x2x2048 : Shape := ⟨3, ![64, 2, 2048]⟩
abbrev S128x2048 : Shape := ⟨2, ![128, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x32768, .i8⟩
  | .hbm, ⟨1, _⟩ => ⟨S64x32768, .bf16⟩
  | .hbm, ⟨2, _⟩ => ⟨S64x32768, .bf16⟩
  | .hbm, ⟨3, _⟩ => ⟨S8192x32768, .bf16⟩
  | .local _ .vmem, ⟨0, _⟩ => ⟨S512x2048, .i8⟩
  | .local _ .vmem, ⟨1, _⟩ => ⟨S512x2048, .i8⟩
  | .local _ .vmem, ⟨2, _⟩ => ⟨S8x2048, .bf16⟩
  | .local _ .vmem, ⟨3, _⟩ => ⟨S8x2048, .bf16⟩
  | .local _ .vmem, ⟨4, _⟩ => ⟨S8x2048, .bf16⟩
  | .local _ .vmem, ⟨5, _⟩ => ⟨S8x2048, .bf16⟩
  | .local _ .vmem, ⟨6, _⟩ => ⟨S1024x2048, .bf16⟩
  | .local _ .vmem, ⟨7, _⟩ => ⟨S1024x2048, .bf16⟩
  | _, _ => ⟨S4096x32768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x32768 : Shape := ⟨2, ![4096, 32768]⟩
abbrev S64x32768 : Shape := ⟨2, ![64, 32768]⟩
abbrev S_ : Shape := ⟨0, ![]⟩
abbrev S64x64x32768 : Shape := ⟨3, ![64, 64, 32768]⟩
abbrev S64x1x32768 : Shape := ⟨3, ![64, 1, 32768]⟩
abbrev S4096x1x32768 : Shape := ⟨3, ![4096, 1, 32768]⟩
abbrev S4096x2x32768 : Shape := ⟨3, ![4096, 2, 32768]⟩
abbrev S8192x32768 : Shape := ⟨2, ![8192, 32768]⟩

abbrev nBuf : Space → Nat
  | .hbm => 35
  | .vmem => 0
  | .smem => 0
  | _ => 0

abbrev bufTy : (tb : Table) → Fin (tcTables nBuf tb) → BufTy
  | .hbm, ⟨0, _⟩ => ⟨S4096x32768, .i8⟩
  | .hbm, ⟨1, _⟩ => ⟨S64x32768, .bf16⟩
  | .hbm, ⟨2, _⟩ => ⟨S64x32768, .bf16⟩
  | .hbm, ⟨3, _⟩ => ⟨S4096x32768, .i32⟩
  | .hbm, ⟨4, _⟩ => ⟨S_, .i32⟩
  | .hbm, ⟨5, _⟩ => ⟨S4096x32768, .i32⟩
  | .hbm, ⟨6, _⟩ => ⟨S4096x32768, .i32⟩
  | .hbm, ⟨7, _⟩ => ⟨S_, .i32⟩
  | .hbm, ⟨8, _⟩ => ⟨S4096x32768, .i32⟩
  | .hbm, ⟨9, _⟩ => ⟨S4096x32768, .i32⟩
  | .hbm, ⟨10, _⟩ => ⟨S_, .i32⟩
  | .hbm, ⟨11, _⟩ => ⟨S4096x32768, .i32⟩
  | .hbm, ⟨12, _⟩ => ⟨S4096x32768, .i32⟩
  | .hbm, ⟨13, _⟩ => ⟨S4096x32768, .bf16⟩
  | .hbm, ⟨14, _⟩ => ⟨S64x64x32768, .bf16⟩
  | .hbm, ⟨15, _⟩ => ⟨S64x1x32768, .bf16⟩
  | .hbm, ⟨16, _⟩ => ⟨S64x64x32768, .bf16⟩
  | .hbm, ⟨17, _⟩ => ⟨S64x64x32768, .bf16⟩
  | .hbm, ⟨18, _⟩ => ⟨S64x1x32768, .bf16⟩
  | .hbm, ⟨19, _⟩ => ⟨S64x64x32768, .bf16⟩
  | .hbm, ⟨20, _⟩ => ⟨S64x64x32768, .bf16⟩
  | .hbm, ⟨21, _⟩ => ⟨S4096x32768, .bf16⟩
  | .hbm, ⟨22, _⟩ => ⟨S4096x32768, .bf16⟩
  | .hbm, ⟨23, _⟩ => ⟨S64x64x32768, .bf16⟩
  | .hbm, ⟨24, _⟩ => ⟨S64x1x32768, .bf16⟩
  | .hbm, ⟨25, _⟩ => ⟨S64x64x32768, .bf16⟩
  | .hbm, ⟨26, _⟩ => ⟨S64x64x32768, .bf16⟩
  | .hbm, ⟨27, _⟩ => ⟨S64x1x32768, .bf16⟩
  | .hbm, ⟨28, _⟩ => ⟨S64x64x32768, .bf16⟩
  | .hbm, ⟨29, _⟩ => ⟨S64x64x32768, .bf16⟩
  | .hbm, ⟨30, _⟩ => ⟨S4096x32768, .bf16⟩
  | .hbm, ⟨31, _⟩ => ⟨S4096x1x32768, .bf16⟩
  | .hbm, ⟨32, _⟩ => ⟨S4096x1x32768, .bf16⟩
  | .hbm, ⟨33, _⟩ => ⟨S4096x2x32768, .bf16⟩
  | .hbm, ⟨34, _⟩ => ⟨S8192x32768, .bf16⟩
  | _, _ => ⟨S4096x32768, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.Spec.lean ====
/- The dequantised matrix as one plain formula, over the extended reals, and the integer facts about a packed byte's
   two four-bit codes. -/
module

public import proofs.«01_k».proof.Proof.Gen.KernelIdeal
public import Idealize.ShloMosaic.Lib.Pointwise

@[expose] public section

set_option maxRecDepth 16384

noncomputable section

namespace Cert.Dequant

open Idealize.ShloMosaic

/-- The code that row `r` of the unpacked matrix takes from the packed byte `b`: the byte's low four bits for an even
    row, its high four bits for an odd one. -/
def code (b : BitVec 8) (r : Nat) : Nat := if r % 2 = 0 then b.toNat % 16 else b.toNat / 16

/-- One dequantised element: (code − zero point) · scale. -/
def deq (n : Nat) (s z : EReal) : EReal := (((n : ℝ) : EReal) - z) * s

/-- The whole dequantised matrix: row `r` reads the packed byte in row `r / 2`, the low half of it for even `r` and the
    high half for odd `r`, and the scale and zero point of the group of 128 rows it lies in. -/
def dequant (w : Vec Ideal Cert.KernelIdeal.S4096x32768 .i8) (s z : Vec Ideal Cert.KernelIdeal.S64x32768 .bf16) :
    Vec Ideal Cert.KernelIdeal.S8192x32768 .bf16 := fun i =>
  have h : (i 0).val < 8192 := (i 0).isLt
  deq (code (w (ix2 (⟨(i 0).val / 2, by omega⟩ : Fin 4096) (i 1))) (i 0).val)
    (s (ix2 (⟨(i 0).val / 128, by omega⟩ : Fin 64) (i 1))) (z (ix2 (⟨(i 0).val / 128, by omega⟩ : Fin 64) (i 1)))

/-- The low four bits of a byte, taken by a mask on the byte widened to 32 bits and read as a signed word. -/
theorem low_toInt (b : BitVec 8) : (IntOp.andi (b.setWidth 32) 15#32).toInt = ((b.toNat % 16 : Nat) : Int) := by
  revert b; decide +kernel

/-- The high four bits of a byte, taken by the host's arithmetic shift and a mask of the widened byte. -/
theorem high_toInt (b : BitVec 8) :
    (IntOp.andi (IntOp.shrsi .host (b.setWidth 32) 4#32) 15#32).toInt = ((b.toNat / 16 : Nat) : Int) := by
  revert b; decide +kernel

/-- The low four bits again, the masked word narrowed to four bits and read unsigned. -/
theorem low_toNat (b : BitVec 8) : ((IntOp.andi (b.setWidth 32) 15#32).setWidth 4).toNat = b.toNat % 16 := by
  revert b; decide +kernel

/-- The high four bits again, the word shifted on the vector unit, narrowed to four bits and read unsigned. -/
theorem high_toNat (b : BitVec 8) : ((IntOp.shrsi .vector (b.setWidth 32) 4#32).setWidth 4).toNat = b.toNat / 16 := by
  revert b; decide +kernel

end Cert.Dequant

end
-- ==== Proof.KernelBlock.lean ====
/- What the kernel's body computes of one group of rows, and of one block. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Dequant

open Cert.KernelIdeal Cert.KernelIdeal.Gen Cert.Dequant Idealize.ShloMosaic

/-- Over the extended reals an unsigned integer is converted exactly. -/
theorem uitofp_val {w : Nat} (b : BitVec w) : (FloatOps.uitofp (F := Ideal) FTy.bf16 b : EReal) = ((b.toNat : ℝ) : EReal) := rfl

/-- One group: 64 packed rows `w`, one row of zero points `z` and one of scales `s` give 128 dequantised rows. -/
theorem pay_apply (w : Vec Ideal S64x2048 .i8) (z s : Vec Ideal S1x2048 .bf16) (r : Fin 128) (c : Fin 2048) :
    k0_pay1 w z s (ix2 r c)
      = deq (code (w (ix2 (⟨r.val / 2, by omega⟩ : Fin 64) c)) r.val) (s (ix2 (0 : Fin 1) c)) (z (ix2 (0 : Fin 1) c)) := by
  pointwise [k0_pay1]
  simp only [uitofp_val]
  unfold deq code
  by_cases h : r.val % 2 = 0
  · rw [dif_pos (by omega), if_pos h, low_toNat]
  · rw [dif_neg (by omega), if_neg h, high_toNat]

/-- One block, as one function of the three input blocks. -/
def block (w : Vec Ideal S512x2048 .i8) (s z : Vec Ideal S8x2048 .bf16) : Vec Ideal S1024x2048 .bf16 := fun y =>
  have h : (y 0).val < 1024 := (y 0).isLt
  deq (code (w (ix2 (⟨(y 0).val / 2, by omega⟩ : Fin 512) (y 1))) (y 0).val)
    (s (ix2 (⟨(y 0).val / 128, by omega⟩ : Fin 8) (y 1))) (z (ix2 (⟨(y 0).val / 128, by omega⟩ : Fin 8) (y 1)))

/-- Where the store of group `g` puts its element `(r, c)`. -/
theorem emb_eq (g : Nat) (hg : g < 8)
    (h2 : ∀ a, (![128 * g, 0] : Fin 2 → Nat) a + S128x2048.size a ≤ S1024x2048.size a) (r : Fin 128) (c : Fin 2048) :
    (Rect.unit (s := S1024x2048) ![128 * g, 0] S128x2048.size h2).emb (ix2 r c)
      = ix2 (⟨128 * g + r.val, by omega⟩ : Fin 1024) c := by
  funext a
  apply Fin.ext
  rw [ValueKit.rect_emb_unit_val]
  match a with
  | ⟨0, _⟩ => rfl
  | ⟨1, _⟩ => exact Nat.zero_add _

/-- The parity of a row decides which half of its byte it takes; a whole group before it changes nothing. -/
theorem code_add (b : BitVec 8) (g r : Nat) : code b (128 * g + r) = code b r := by
  unfold code; rw [show (128 * g + r) % 2 = r % 2 by omega]

/-- The store of group `g` of a block, read at an index, is the block's function where that store puts the index. -/
theorem piece_apply (w : Vec Ideal S512x2048 .i8) (s z : Vec Ideal S8x2048 .bf16) (g : Nat) (hg : g < 8)
    (h0 : ∀ a, (![64 * g, 0] : Fin 2 → Nat) a + S64x2048.size a ≤ S512x2048.size a)
    (h1 : ∀ a, (![g, 0] : Fin 2 → Nat) a + S1x2048.size a ≤ S8x2048.size a)
    (h2 : ∀ a, (![128 * g, 0] : Fin 2 → Nat) a + S128x2048.size a ≤ S1024x2048.size a) (x : S128x2048.Idx) :
    k0_pay1 (View.ld w (Rect.unit (s := S512x2048) ![64 * g, 0] S64x2048.size h0))
        (View.ld z (Rect.unit (s := S8x2048) ![g, 0] S1x2048.size h1))
        (View.ld s (Rect.unit (s := S8x2048) ![g, 0] S1x2048.size h1)) x
      = block w s z ((Rect.unit (s := S1024x2048) ![128 * g, 0] S128x2048.size h2).emb x) := by
  idx_vars x
  rw [emb_eq g hg h2 x0 x1]
  refine (pay_apply _ _ _ _ _).trans ?_
  pointwise [block]
  have ew : (⟨64 * g + x0.val / 2, by omega⟩ : Fin 512) = ⟨(128 * g + x0.val) / 2, by omega⟩ := Fin.ext (by dsimp only; omega)
  have es : (⟨g, hg⟩ : Fin 8) = ⟨(128 * g + x0.val) / 128, by omega⟩ := Fin.ext (by dsimp only; omega)
  rw [code_add, ew, es]

/-- What the body leaves in the output block is that function: its eight stores cover the block. -/
theorem out_eq (w : Vec Ideal S512x2048 .i8) (s z : Vec Ideal S8x2048 .bf16) : out0_3 w s z = block w s z := by
  funext y
  unfold out0_3
  refine View.canon_apply_of_pieces (block w s z) _ (fun p hp x => ?_) y (cover0_3 _ _ _ _ _ _ _ _ y)
  simp only [List.mem_cons, List.mem_nil_iff, or_false] at hp
  rcases hp with rfl | rfl | rfl | rfl | rfl | rfl | rfl | rfl
  · exact piece_apply w s z 7 (by omega) inb_S512x2048_S64x2048_448_0 inb_S8x2048_S1x2048_7_0 inb_S1024x2048_S128x2048_896_0 x
  · exact piece_apply w s z 6 (by omega) inb_S512x2048_S64x2048_384_0 inb_S8x2048_S1x2048_6_0 inb_S1024x2048_S128x2048_768_0 x
  · exact piece_apply w s z 5 (by omega) inb_S512x2048_S64x2048_320_0 inb_S8x2048_S1x2048_5_0 inb_S1024x2048_S128x2048_640_0 x
  · exact piece_apply w s z 4 (by omega) inb_S512x2048_S64x2048_256_0 inb_S8x2048_S1x2048_4_0 inb_S1024x2048_S128x2048_512_0 x
  · exact piece_apply w s z 3 (by omega) inb_S512x2048_S64x2048_192_0 inb_S8x2048_S1x2048_3_0 inb_S1024x2048_S128x2048_384_0 x
  · exact piece_apply w s z 2 (by omega) inb_S512x2048_S64x2048_128_0 inb_S8x2048_S1x2048_2_0 inb_S1024x2048_S128x2048_256_0 x
  · exact piece_apply w s z 1 (by omega) inb_S512x2048_S64x2048_64_0 inb_S8x2048_S1x2048_1_0 inb_S1024x2048_S128x2048_128_0 x
  · exact piece_apply w s z 0 (by omega) inb_S512x2048_S64x2048_0_0 inb_S8x2048_S1x2048_0_0 inb_S1024x2048_S128x2048_0_0 x

end Cert.KernelIdeal.Dequant

end
-- ==== Proof.KernelValue.lean ====
/- What the kernel's result array holds after the run: the dequantised matrix. -/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.KernelIdeal.Dequant

open Cert.KernelIdeal Cert.KernelIdeal.Gen Cert.Dequant Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- At grid point `t` every window is at block `(t / 16, t % 16)` of its array. -/
theorem idx : ∀ t : Fin cfg0.N, win0_0.index t = ![t.val / 16, t.val % 16] ∧ win0_1.index t = ![t.val / 16, t.val % 16]
    ∧ win0_2.index t = ![t.val / 16, t.val % 16] ∧ win0_3.index t = ![t.val / 16, t.val % 16] :=
  (by decide +kernel : ∀ t : Fin grid0.N, _)

/-- One point: the block's function of the input blocks at `t` is the dequantised matrix at the place of the block. -/
theorem point (c : Dev nD) (t : Fin cfg0.N) (y : S1024x2048.Idx) :
    block (iblk m c 0 t) (iblk m c 1 t) (iblk m c 2 t) y
      = dequant (m ((c : Thread nD τ).loc main_arg0)) (m ((c : Thread nD τ).loc main_arg1)) (m ((c : Thread nD τ).loc main_arg2))
          (((cfg0.win 3).blk t).view.emb y) := by
  unfold block dequant
  blk_simp [iblk, V, idx t]
  have h0 : (y 0).val < 1024 := (y 0).isLt
  have ht : t.val < 128 := t.isLt
  have ew : ((win0_0.blk t).view.emb (ix2 (⟨(y 0).val / 2, by omega⟩ : Fin 512) (y 1)) : S4096x32768.Idx)
      = ix2 (⟨(t.val / 16 * 1024 + (y 0).val) / 2, by omega⟩ : Fin 4096) (((win0_3.blk t).view.emb y : S8192x32768.Idx) 1) := by
    blk_ext [iblk, V, idx t]
  have es : ((win0_1.blk t).view.emb (ix2 (⟨(y 0).val / 128, by omega⟩ : Fin 8) (y 1)) : S64x32768.Idx)
      = ix2 (⟨(t.val / 16 * 1024 + (y 0).val) / 128, by omega⟩ : Fin 64) (((win0_3.blk t).view.emb y : S8192x32768.Idx) 1) := by
    blk_ext [iblk, V, idx t]
  have ez : ((win0_2.blk t).view.emb (ix2 (⟨(y 0).val / 128, by omega⟩ : Fin 8) (y 1)) : S64x32768.Idx)
      = ix2 (⟨(t.val / 16 * 1024 + (y 0).val) / 128, by omega⟩ : Fin 64) (((win0_3.blk t).view.emb y : S8192x32768.Idx) 1) := by
    blk_ext [iblk, V, idx t]
  have ec : ∀ b, code b (t.val / 16 * 1024 + (y 0).val) = code b (y 0).val := fun b => by
    rw [show t.val / 16 * 1024 + (y 0).val = 128 * (t.val / 16 * 8) + (y 0).val by omega, code_add]
  rw [ew, es, ez, ec]
  rfl

/-- The result array after the run. -/
theorem final (c : Dev nD) : (dats m 0 c).arrAt 3 cfg0.N
    = dequant (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_eq]
  exact point m c t y

/-- The run: the result array ends at the dequantised matrix, the arguments as they were. -/
theorem run : θ_run defs (onTc (τ := τ) (main (F := Ideal))) ⟨m, fun _ => 0, ρ⟩ fun r => ∀ c : Dev nD,
      r.2.mem ((c : Thread nD τ).loc main_v0)
        = dequant (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Dequant

end
-- ==== Proof.ReferenceValue.lean ====
/- What the reference computes, element by element. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Dequant

open Cert.ReferenceIdeal Cert.ReferenceIdeal.Gen Cert.Dequant Idealize.ShloMosaic

/-- One nibble of every packed byte dequantised: the integers `q`, group by group, less the zero points, times the
    scales. -/
abbrev field (q : IVec S4096x32768 32) (s z : FVec Ideal S64x32768 .bf16) : FVec Ideal S4096x32768 .bf16 :=
  shapeCast S4096x32768 (mulf (subf (shapeCast S64x64x32768 (sitofp (F := Ideal) .bf16 q) shapeCasts_S4096x32768_S64x64x32768)
      (broadcastInDim S64x64x32768 ![0, 1, 2] bcast_S64x1x32768_S64x64x32768_0_1_2 (broadcastInDim S64x1x32768 ![0, 2] bcast_S64x32768_S64x1x32768_0_2 z)))
      (broadcastInDim S64x64x32768 ![0, 1, 2] bcast_S64x1x32768_S64x64x32768_0_1_2 (broadcastInDim S64x1x32768 ![0, 2] bcast_S64x32768_S64x1x32768_0_2 s)))
    shapeCasts_S64x64x32768_S4096x32768

/-- Over the extended reals a signed integer is converted exactly. -/
theorem sitofp_val {w : Nat} (b : BitVec w) : (FloatOps.sitofp (F := Ideal) FTy.bf16 b : EReal) = ((b.toInt : ℝ) : EReal) := rfl

/-- The reference's whole result, as its operations compose. -/
abbrev result (w : IVec S4096x32768 8) (s z : FVec Ideal S64x32768 .bf16) : FVec Ideal S8192x32768 .bf16 :=
  shapeCast S8192x32768 (concatenate S4096x2x32768 1
    [⟨S4096x1x32768, broadcastInDim S4096x1x32768 ![0, 2] bcast_S4096x32768_S4096x1x32768_0_2
        (field (andi (extui 32 w natLt_8_32) (broadcastInDim S4096x32768 ![] bcast_S_S4096x32768 (constantI S_ 32 15#32))) s z)⟩,
     ⟨S4096x1x32768, broadcastInDim S4096x1x32768 ![0, 2] bcast_S4096x32768_S4096x1x32768_0_2
        (field (andi (Host.shrsi (extui 32 w natLt_8_32) (broadcastInDim S4096x32768 ![] bcast_S_S4096x32768 (constantI S_ 32 4#32)))
          (broadcastInDim S4096x32768 ![] bcast_S_S4096x32768 (constantI S_ 32 15#32))) s z)⟩]
    concatenates_S4096x1x32768_S4096x1x32768_S4096x2x32768_d1) shapeCasts_S4096x2x32768_S8192x32768

/-- The reference's result is the dequantised matrix. -/
theorem result_eq (w : IVec S4096x32768 8) (s z : FVec Ideal S64x32768 .bf16) : result w s z = dequant w s z := by
  funext i
  idx_vars i
  pointwise [result, field, dequant]
  simp only [sitofp_val]
  have e : (⟨i0.val / 2 / 64 * 64 + i0.val / 2 % 64, by omega⟩ : Fin 4096) = ⟨i0.val / 2, by omega⟩ := Fin.ext (by dsimp only; omega)
  have es : (⟨i0.val / 2 / 64, by omega⟩ : Fin 64) = ⟨i0.val / 128, by omega⟩ := Fin.ext (by dsimp only; omega)
  rw [e, es]
  unfold deq code
  by_cases h : i0.val % 2 = 0
  · rw [dif_pos (by omega), if_pos h, low_toInt, Int.cast_natCast]
  · rw [dif_neg (by omega), if_neg h, high_toInt, Int.cast_natCast]

end Cert.ReferenceIdeal.Dequant

end
-- ==== Proof.lean ====
module

public import proofs.«01_k».proof.Proof.KernelValue
public import proofs.«01_k».proof.Proof.ReferenceValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference run from any memory leaves its arguments as they were and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with equal results, from memories with equal arguments:
    both results are the dequantised matrix of the arguments. -/
theorem algebraic : Cert.algebraic_KernelIdeal_ReferenceIdeal := by
  intro m ρ m' ρ' _ hagree
  refine ⟨fun c => Cert.Dequant.dequant (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1, (h c).2⟩) (Cert.KernelIdeal.Dequant.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Dequant.result_eq _ _ _).trans ?_
    rw [(hagree c).1, (hagree c).2.1, (hagree c).2.2]

/-- The five claims, after the facts each program states. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
